-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_qmax" .f32 0x3C010204#32 ((1 / 127 : ℝ) : EReal)

def algebraic_KernelIdeal_ReferenceIdeal_on_codes_of_nonzero_rows [hKernelIdeal : Cert.KernelIdeal.Facts] [hReferenceIdeal : Cert.ReferenceIdeal.Facts] [hOn_codes_of_nonzero_rows : Cert.On_codes_of_nonzero_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v10)) (v5 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 4096, 4096]⟩ : Shape).Idx, (Cert.On_codes_of_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v6) i = v0 c i)
          ∧ (∀ i : (⟨3, ![2, 4096, 4096]⟩ : Shape).Idx, (Cert.On_codes_of_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v7) i = v1 c i)
          ∧ (∀ i : (⟨3, ![2, 4096, 4096]⟩ : Shape).Idx, (Cert.On_codes_of_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v8) i = v2 c i)
          ∧ (∀ i : (⟨2, ![2, 4096]⟩ : Shape).Idx, (Cert.On_codes_of_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_v9) i = v3 c i)
          ∧ (∀ i : (⟨3, ![2, 4096, 4096]⟩ : Shape).Idx, (Cert.On_codes_of_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.KernelIdeal.nD Cert.KernelIdeal.τ).loc Cert.KernelIdeal.main_v10) i = v4 c i)
          ∧ (∀ i : (⟨2, ![2, 4096]⟩ : Shape).Idx, (Cert.On_codes_of_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 i = 1#1 → r.2.mem ((c.tc : Thread Cert.KernelIdeal.nD Cert.KernelIdeal.τ).loc Cert.KernelIdeal.main_v11) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 4096, 4096]⟩ : Shape).Idx, (Cert.On_codes_of_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v0) i = v0 c i)
          ∧ (∀ i : (⟨3, ![2, 4096, 4096]⟩ : Shape).Idx, (Cert.On_codes_of_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v13) i = v1 c i)
          ∧ (∀ i : (⟨3, ![2, 4096, 4096]⟩ : Shape).Idx, (Cert.On_codes_of_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v27) i = v2 c i)
          ∧ (∀ i : (⟨2, ![2, 4096]⟩ : Shape).Idx, (Cert.On_codes_of_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_v28) i = v3 c i)
          ∧ (∀ i : (⟨3, ![2, 4096, 4096]⟩ : Shape).Idx, (Cert.On_codes_of_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.ReferenceIdeal.nD Cert.ReferenceIdeal.τ).loc Cert.ReferenceIdeal.main_v42) i = v4 c i)
          ∧ (∀ i : (⟨2, ![2, 4096]⟩ : Shape).Idx, (Cert.On_codes_of_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 i = 1#1 → r.2.mem ((c.tc : Thread Cert.ReferenceIdeal.nD Cert.ReferenceIdeal.τ).loc Cert.ReferenceIdeal.main_v43) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hOn_codes_of_nonzero_rows : Cert.On_codes_of_nonzero_rows.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_codes_of_nonzero_rows (hKernelIdeal := hKernelIdeal) (hReferenceIdeal := hReferenceIdeal) (hOn_codes_of_nonzero_rows := hOn_codes_of_nonzero_rows)
-- ==== On_codes_of_nonzero_rows.lean ====
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩

class Facts : Prop where
  reducesTo_S2x4096x4096_S2x4096_d2 : S2x4096x4096.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x4096_0_1_2 : S2x4096x1.BroadcastsInDim S2x4096x4096 (![0, 1, 2] : Fin 3 → Fin S2x4096x4096.rank)
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  bcast_S_S2x4096x4096 : S_.BroadcastsInDim S2x4096x4096 (![] : Fin 0 → Fin S2x4096x4096.rank)
  natLt_8_32 : 8 < 32
  shapeCasts_S2x4096x1_S2x4096 : S2x4096x1.ShapeCasts S2x4096
  bcast_S_S2x4096 : S_.BroadcastsInDim S2x4096 (![] : Fin 0 → Fin S2x4096.rank)

variable [Facts]

def fn_round {F : FTy → Type} [FloatOps F] (arg0 : FVec F S2x4096x4096 .f32) : FVec F S2x4096x4096 .f32 :=
  let v0 : FVec F S2x4096x4096 .f32 := Host.roundeven arg0
  v0

def fn_clip {F : FTy → Type} [FloatOps F] (arg0 : FVec F S2x4096x4096 .f32) (arg1 : FVec F S_ .f32) (arg2 : FVec F S_ .f32) : FVec F S2x4096x4096 .f32 :=
  let v0 : FVec F S_ .f32 := id arg1
  let v1 : FVec F S2x4096x4096 .f32 := broadcastInDim S2x4096x4096 ![] bcast_S_S2x4096x4096 v0
  let v2 : FVec F S2x4096x4096 .f32 := maximumf v1 arg0
  let v3 : FVec F S_ .f32 := id arg2
  let v4 : FVec F S2x4096x4096 .f32 := broadcastInDim S2x4096x4096 ![] bcast_S_S2x4096x4096 v3
  let v5 : FVec F S2x4096x4096 .f32 := minimumf v4 v2
  v5

def fn_part2 {F : FTy → Type} [FloatOps F] (main_v28 : FVec F S2x4096 .f32) (main_v36 : FVec F S2x4096x1 .f32) (main_v38 : FVec F S2x4096x4096 .f32) : IVec S2x4096x4096 1 × IVec S2x4096x4096 1 × IVec S2x4096x4096 1 × IVec S2x4096 1 × IVec S2x4096x4096 1 × IVec S2x4096 1 :=
  let main_v39 : FVec F S2x4096x4096 .f32 := fn_round (F := F) main_v38
  let main_cst_8 : FVec F S_ .f32 := constant S_ .f32 0xC3000000#32
  let main_cst_9 : FVec F S_ .f32 := constant S_ .f32 0x42FE0000#32
  let main_v40 : FVec F S2x4096x4096 .f32 := fn_clip (F := F) main_v39 main_cst_8 main_cst_9
  let main_v41 : IVec S2x4096x4096 32 := fptosi 32 main_v40
  let main_v42 : IVec S2x4096x4096 8 := (trunci 8 · natLt_8_32) main_v41
  let main_v43 : FVec F S2x4096 .f32 := shapeCast S2x4096 main_v36 shapeCasts_S2x4096x1_S2x4096
  let main_c : IVec S_ 1 := constantI S_ 1 1#1
  let main_v44 : IVec S2x4096x4096 1 := broadcastInDim S2x4096x4096 ![] bcast_S_S2x4096x4096 main_c
  let main_c_10 : IVec S_ 1 := constantI S_ 1 1#1
  let main_v45 : IVec S2x4096 1 := broadcastInDim S2x4096 ![] bcast_S_S2x4096 main_c_10
  let main_cst_11 : FVec F S_ .f32 := constant S_ .f32 0x00000000#32
  let main_v46 : FVec F S2x4096 .f32 := broadcastInDim S2x4096 ![] bcast_S_S2x4096 main_cst_11
  let main_v47 : IVec S2x4096 1 := cmpf .une main_v28 main_v46
  let main_v48 : IVec S2x4096x1 1 := broadcastInDim S2x4096x1 ![0, 1] bcast_S2x4096_S2x4096x1_0_1 main_v47
  let main_v49 : IVec S2x4096x4096 1 := broadcastInDim S2x4096x4096 ![0, 1, 2] bcast_S2x4096x1_S2x4096x4096_0_1_2 main_v48
  let main_cst_12 : FVec F S_ .f32 := constant S_ .f32 0x00000000#32
  let main_v50 : FVec F S2x4096 .f32 := broadcastInDim S2x4096 ![] bcast_S_S2x4096 main_cst_12
  let main_v51 : IVec S2x4096 1 := cmpf .une main_v43 main_v50
  let main_v52 : IVec S2x4096x1 1 := broadcastInDim S2x4096x1 ![0, 1] bcast_S2x4096_S2x4096x1_0_1 main_v51
  let main_v53 : IVec S2x4096x4096 1 := broadcastInDim S2x4096x4096 ![0, 1, 2] bcast_S2x4096x1_S2x4096x4096_0_1_2 main_v52
  (main_v44, main_v44, main_v49, main_v45, main_v53, main_v45)

def fn_part1 {F : FTy → Type} [FloatOps F] (main_arg4 : FVec F S4096 .f32) (main_v13 : FVec F S2x4096x4096 .f32) (main_v16 : FVec F S2x4096x4096 .f32) (main_v19 : FVec F S2x4096x1 .f32) : IVec S2x4096x4096 1 × IVec S2x4096x4096 1 × IVec S2x4096x4096 1 × IVec S2x4096 1 × IVec S2x4096x4096 1 × IVec S2x4096 1 :=
  let main_cst_3 : FVec F S_ .f32 := constant S_ .f32 0x42FE0000#32
  let main_v20 : FVec F S2x4096x1 .f32 := broadcastInDim S2x4096x1 ![] bcast_S_S2x4096x1 main_cst_3
  let main_v21 : FVec F S2x4096x1 .f32 := Host.divf main_v19 main_v20
  let main_v22 : FVec F S2x4096x4096 .f32 := broadcastInDim S2x4096x4096 ![0, 1, 2] bcast_S2x4096x1_S2x4096x4096_0_1_2 main_v21
  let main_v23 : FVec F S2x4096x4096 .f32 := Host.divf main_v16 main_v22
  let main_v24 : FVec F S2x4096x4096 .f32 := fn_round (F := F) main_v23
  let main_cst_4 : FVec F S_ .f32 := constant S_ .f32 0xC3000000#32
  let main_cst_5 : FVec F S_ .f32 := constant S_ .f32 0x42FE0000#32
  let main_v25 : FVec F S2x4096x4096 .f32 := fn_clip (F := F) main_v24 main_cst_4 main_cst_5
  let main_v26 : IVec S2x4096x4096 32 := fptosi 32 main_v25
  let main_v27 : IVec S2x4096x4096 8 := (trunci 8 · natLt_8_32) main_v26
  let main_v28 : FVec F S2x4096 .f32 := shapeCast S2x4096 main_v21 shapeCasts_S2x4096x1_S2x4096
  let main_v29 : FVec F S1x1x4096 .f32 := broadcastInDim S1x1x4096 ![2] bcast_S4096_S1x1x4096_2 main_arg4
  let main_v30 : FVec F S2x4096x4096 .f32 := broadcastInDim S2x4096x4096 ![0, 1, 2] bcast_S1x1x4096_S2x4096x4096_0_1_2 main_v29
  let main_v31 : FVec F S2x4096x4096 .f32 := mulf main_v13 main_v30
  let main_v32 : FVec F S2x4096x4096 .f32 := Host.absf main_v31
  let main_cst_6 : FVec F S_ .f32 := constant S_ .f32 0xFF800000#32
  let main_v33 : FVec F S2x4096 .f32 := (fun x v => Host.reduce FloatOps.maximumf x v reducesTo_S2x4096x4096_S2x4096_d2 h_S_) main_v32 main_cst_6
  let main_v34 : FVec F S2x4096x1 .f32 := broadcastInDim S2x4096x1 ![0, 1] bcast_S2x4096_S2x4096x1_0_1 main_v33
  let main_cst_7 : FVec F S_ .f32 := constant S_ .f32 0x42FE0000#32
  let main_v35 : FVec F S2x4096x1 .f32 := broadcastInDim S2x4096x1 ![] bcast_S_S2x4096x1 main_cst_7
  let main_v36 : FVec F S2x4096x1 .f32 := Host.divf main_v34 main_v35
  let main_v37 : FVec F S2x4096x4096 .f32 := broadcastInDim S2x4096x4096 ![0, 1, 2] bcast_S2x4096x1_S2x4096x4096_0_1_2 main_v36
  let main_v38 : FVec F S2x4096x4096 .f32 := Host.divf main_v31 main_v37
  fn_part2 (F := F) main_v28 main_v36 main_v38

def fn {F : FTy → Type} [FloatOps F] (main_arg0 : FVec F S2x4096x4096 .f32) (main_arg1 : FVec F S2x4096x4096 .f32) (main_arg2 : FVec F S4096 .f32) (main_arg3 : FVec F S4096 .f32) (main_arg4 : FVec F S4096 .f32) : IVec S2x4096x4096 1 × IVec S2x4096x4096 1 × IVec S2x4096x4096 1 × IVec S2x4096 1 × IVec S2x4096x4096 1 × IVec S2x4096 1 :=
  let main_v0 : FVec F S2x4096x4096 .f32 := addf main_arg0 main_arg1
  let main_v1 : FVec F S2x4096x4096 .f32 := mulf main_v0 main_v0
  let main_cst : FVec F S_ .f32 := constant S_ .f32 0x00000000#32
  let main_v2 : FVec F S2x4096 .f32 := (fun x v => Host.reduceAdd x v reducesTo_S2x4096x4096_S2x4096_d2 h_S_) main_v1 main_cst
  let main_v3 : FVec F S2x4096x1 .f32 := broadcastInDim S2x4096x1 ![0, 1] bcast_S2x4096_S2x4096x1_0_1 main_v2
  let main_cst_0 : FVec F S_ .f32 := constant S_ .f32 0x45800000#32
  let main_v4 : FVec F S2x4096x1 .f32 := broadcastInDim S2x4096x1 ![] bcast_S_S2x4096x1 main_cst_0
  let main_v5 : FVec F S2x4096x1 .f32 := Host.divf main_v3 main_v4
  let main_cst_1 : FVec F S_ .f32 := constant S_ .f32 0x3727C5AC#32
  let main_v6 : FVec F S2x4096x1 .f32 := broadcastInDim S2x4096x1 ![] bcast_S_S2x4096x1 main_cst_1
  let main_v7 : FVec F S2x4096x1 .f32 := addf main_v5 main_v6
  let main_v8 : FVec F S2x4096x1 .f32 := Host.rsqrt main_v7
  let main_v9 : FVec F S2x4096x4096 .f32 := broadcastInDim S2x4096x4096 ![0, 1, 2] bcast_S2x4096x1_S2x4096x4096_0_1_2 main_v8
  let main_v10 : FVec F S2x4096x4096 .f32 := mulf main_v0 main_v9
  let main_v11 : FVec F S1x1x4096 .f32 := broadcastInDim S1x1x4096 ![2] bcast_S4096_S1x1x4096_2 main_arg2
  let main_v12 : FVec F S2x4096x4096 .f32 := broadcastInDim S2x4096x4096 ![0, 1, 2] bcast_S1x1x4096_S2x4096x4096_0_1_2 main_v11
  let main_v13 : FVec F S2x4096x4096 .f32 := mulf main_v10 main_v12
  let main_v14 : FVec F S1x1x4096 .f32 := broadcastInDim S1x1x4096 ![2] bcast_S4096_S1x1x4096_2 main_arg3
  let main_v15 : FVec F S2x4096x4096 .f32 := broadcastInDim S2x4096x4096 ![0, 1, 2] bcast_S1x1x4096_S2x4096x4096_0_1_2 main_v14
  let main_v16 : FVec F S2x4096x4096 .f32 := mulf main_v13 main_v15
  let main_v17 : FVec F S2x4096x4096 .f32 := Host.absf main_v16
  let main_cst_2 : FVec F S_ .f32 := constant S_ .f32 0xFF800000#32
  let main_v18 : FVec F S2x4096 .f32 := (fun x v => Host.reduce FloatOps.maximumf x v reducesTo_S2x4096x4096_S2x4096_d2 h_S_) main_v17 main_cst_2
  let main_v19 : FVec F S2x4096x1 .f32 := broadcastInDim S2x4096x1 ![0, 1] bcast_S2x4096_S2x4096x1_0_1 main_v18
  fn_part1 (F := F) main_arg4 main_v13 main_v16 main_v19
-- ==== Kernel.lean ====
abbrev S2x4096x4096 : Shape := ⟨3, ![2, 4096, 4096]⟩
abbrev S4096 : Shape := ⟨1, ![4096]⟩
abbrev S8192x4096 : Shape := ⟨2, ![8192, 4096]⟩
abbrev S1x4096 : Shape := ⟨2, ![1, 4096]⟩
abbrev S32x1x256 : Shape := ⟨3, ![32, 1, 256]⟩
abbrev S256x4096 : Shape := ⟨2, ![256, 4096]⟩
abbrev S1x1x256 : Shape := ⟨3, ![1, 1, 256]⟩
abbrev S256 : Shape := ⟨1, ![256]⟩
abbrev S256x1 : Shape := ⟨2, ![256, 1]⟩
abbrev S1x256 : Shape := ⟨2, ![1, 256]⟩
abbrev S2x4096 : Shape := ⟨2, ![2, 4096]⟩

abbrev nBuf : Space → Nat
  | .hbm => 22
  | .vmem => 19
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S8192x4096, .f32⟩
  | .hbm, ⟨6, _⟩ => ⟨S8192x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S8192x4096, .i8⟩
  | .hbm, ⟨13, _⟩ => ⟨S32x1x256, .f32⟩
  | .hbm, ⟨14, _⟩ => ⟨S8192x4096, .i8⟩
  | .hbm, ⟨15, _⟩ => ⟨S32x1x256, .f32⟩
  | .hbm, ⟨16, _⟩ => ⟨S2x4096x4096, .f32⟩
  | .hbm, ⟨17, _⟩ => ⟨S2x4096x4096, .f32⟩
  | .hbm, ⟨18, _⟩ => ⟨S2x4096x4096, .i8⟩
  | .hbm, ⟨19, _⟩ => ⟨S2x4096, .f32⟩
  | .hbm, ⟨20, _⟩ => ⟨S2x4096x4096, .i8⟩
  | .hbm, ⟨21, _⟩ => ⟨S2x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .i8⟩
  | .local _ .vmem, ⟨12, _⟩ => ⟨S256x4096, .i8⟩
  | .local _ .vmem, ⟨13, _⟩ => ⟨S1x1x256, .f32⟩
  | .local _ .vmem, ⟨14, _⟩ => ⟨S1x1x256, .f32⟩
  | .local _ .vmem, ⟨15, _⟩ => ⟨S256x4096, .i8⟩
  | .local _ .vmem, ⟨16, _⟩ => ⟨S256x4096, .i8⟩
  | .local _ .vmem, ⟨17, _⟩ => ⟨S1x1x256, .f32⟩
  | .local _ .vmem, ⟨18, _⟩ => ⟨S1x1x256, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_qmax" => some ((1 / 127 : ℝ) : EReal)
  | _ => none
-- ==== ReferenceIdeal.lean ====
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩

abbrev nBuf : Space → Nat
  | .hbm => 70
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S2x4096x4096, .f32⟩
  | .hbm, ⟨6, _⟩ => ⟨S2x4096x4096, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x4096, .f32⟩
  | .hbm, ⟨18, _⟩ => ⟨S2x4096x4096, .f32⟩
  | .hbm, ⟨19, _⟩ => ⟨S1x1x4096, .f32⟩
  | .hbm, ⟨20, _⟩ => ⟨S2x4096x4096, .f32⟩
  | .hbm, ⟨21, _⟩ => ⟨S2x4096x4096, .f32⟩
  | .hbm, ⟨22, _⟩ => ⟨S1x1x4096, .f32⟩
  | .hbm, ⟨23, _⟩ => ⟨S2x4096x4096, .f32⟩
  | .hbm, ⟨24, _⟩ => ⟨S2x4096x4096, .f32⟩
  | .hbm, ⟨25, _⟩ => ⟨S2x4096x4096, .f32⟩
  | .hbm, ⟨26, _⟩ => ⟨S_, .f32⟩
  | .hbm, ⟨27, _⟩ => ⟨S2x4096, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x4096, .f32⟩
  | .hbm, ⟨33, _⟩ => ⟨S2x4096x4096, .f32⟩
  | .hbm, ⟨34, _⟩ => ⟨S2x4096x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2x4096x4096, .f32⟩
  | .hbm, ⟨39, _⟩ => ⟨S2x4096x4096, .f32⟩
  | .hbm, ⟨40, _⟩ => ⟨S_, .f32⟩
  | .hbm, ⟨41, _⟩ => ⟨S2x4096x4096, .f32⟩
  | .hbm, ⟨42, _⟩ => ⟨S2x4096x4096, .f32⟩
  | .hbm, ⟨43, _⟩ => ⟨S2x4096x4096, .i32⟩
  | .hbm, ⟨44, _⟩ => ⟨S2x4096x4096, .i8⟩
  | .hbm, ⟨45, _⟩ => ⟨S2x4096, .f32⟩
  | .hbm, ⟨46, _⟩ => ⟨S1x1x4096, .f32⟩
  | .hbm, ⟨47, _⟩ => ⟨S2x4096x4096, .f32⟩
  | .hbm, ⟨48, _⟩ => ⟨S2x4096x4096, .f32⟩
  | .hbm, ⟨49, _⟩ => ⟨S2x4096x4096, .f32⟩
  | .hbm, ⟨50, _⟩ => ⟨S_, .f32⟩
  | .hbm, ⟨51, _⟩ => ⟨S2x4096, .f32⟩
  | .hbm, ⟨52, _⟩ => ⟨S2x4096x1, .f32⟩
  | .hbm, ⟨53, _⟩ => ⟨S_, .f32⟩
  | .hbm, ⟨54, _⟩ => ⟨S2x4096x1, .f32⟩
  | .hbm, ⟨55, _⟩ => ⟨S2x4096x1, .f32⟩
  | .hbm, ⟨56, _⟩ => ⟨S2x4096x4096, .f32⟩
  | .hbm, ⟨57, _⟩ => ⟨S2x4096x4096, .f32⟩
  | .hbm, ⟨58, _⟩ => ⟨S2x4096x4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2x4096x4096, .f32⟩
  | .hbm, ⟨63, _⟩ => ⟨S2x4096x4096, .f32⟩
  | .hbm, ⟨64, _⟩ => ⟨S_, .f32⟩
  | .hbm, ⟨65, _⟩ => ⟨S2x4096x4096, .f32⟩
  | .hbm, ⟨66, _⟩ => ⟨S2x4096x4096, .f32⟩
  | .hbm, ⟨67, _⟩ => ⟨S2x4096x4096, .i32⟩
  | .hbm, ⟨68, _⟩ => ⟨S2x4096x4096, .i8⟩
  | .hbm, ⟨69, _⟩ => ⟨S2x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_cst_9 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]
-- ==== Proof.Quantiser.lean ====
/-
  The row quantiser over the extended reals, as the reference writes it and as the kernel computes it.

  A row `y` of 4096 numbers has the scale `absMax y / 127`, and its codes are `y k / scale` rounded to the nearest integer
  (ties to even), clipped to [-128, 127] and read as an 8-bit integer. The kernel multiplies the greatest magnitude by the
  constant 1/127 instead, and multiplies `y k` by `127 / absMax y`; and it casts to 8 bits at once, where the reference goes
  by way of 32 bits. This module proves the two the same: the scale always, the codes wherever the scale isn't zero.
-/
module

public import Idealize.ShloMosaic.PureOps.Ideal
public import Idealize.ShloMosaic.PureOps

@[expose] public section

noncomputable section

namespace Cert.Rows

open Idealize.ShloMosaic

/-! ### The constants -/

/-- The float word of 127 denotes 127. -/
theorem word_127 : Ideal.ofBits .f32 0x42FE0000#32 = ((127 : ℝ) : EReal) := by
  simp [Ideal.ofBits, Ideal.ieee, -EReal.coe_mul]; norm_num

/-- The float word of -128 denotes -128. -/
theorem word_neg128 : Ideal.ofBits .f32 0xC3000000#32 = ((-128 : ℝ) : EReal) := by
  simp [Ideal.ofBits, Ideal.ieee, -EReal.coe_mul]; norm_num

/-- The float word of +0 denotes 0. -/
theorem word_zero : Ideal.ofBits .f32 0x00000000#32 = 0 := by
  simp [Ideal.ofBits, Ideal.ieee]

/-! ### One number -/

/-- The clip to [-128, 127] of the nearest integer (ties to even). -/
def roundClip (z : EReal) : EReal := min ((127 : ℝ) : EReal) (max ((-128 : ℝ) : EReal) (Ideal.liftRound Ideal.roundHalfEven z))

/-- Rounding and clipping leaves an integer between -128 and 127. -/
theorem roundClip_int (z : EReal) : ∃ n : ℤ, -128 ≤ n ∧ n ≤ 127 ∧ roundClip z = ((n : ℝ) : EReal) := by
  have hr (r : ℝ) : ∃ n : ℤ, -128 ≤ n ∧ n ≤ 127 ∧ roundClip (r : EReal) = ((n : ℝ) : EReal) := by
    refine ⟨min 127 (max (-128) (Ideal.roundHalfEven r)), by omega, by omega, ?_⟩
    rw [roundClip, Ideal.liftRound_coe]
    rw [Int.cast_min, Int.cast_max, EReal.coe_strictMono.monotone.map_min, EReal.coe_strictMono.monotone.map_max]
    norm_num
  induction z with
  | bot => exact ⟨-128, by norm_num, by norm_num, by
      rw [roundClip, show Ideal.liftRound Ideal.roundHalfEven ⊥ = ⊥ from rfl, max_eq_left bot_le, min_eq_right]
      · norm_num
      · exact EReal.coe_le_coe_iff.2 (by norm_num)⟩
  | top => exact ⟨127, by norm_num, by norm_num, by
      rw [roundClip, show Ideal.liftRound Ideal.roundHalfEven ⊤ = ⊤ from rfl, max_eq_right le_top, min_eq_left le_top]
      norm_num⟩
  | coe r => exact hr r

/-- An integer between -128 and 127, read as a `w`-bit integer of at least 8 bits, is that integer's word. -/
theorem fptosi_small {w : ℕ} (hw : 8 ≤ w) {n : ℤ} (h₀ : -128 ≤ n) (h₁ : n ≤ 127) :
    Ideal.fptosi w ((n : ℝ) : EReal) = BitVec.ofInt w n := by
  have h2 : (128 : ℤ) ≤ ((2 ^ (w - 1) : ℕ) : ℤ) := by
    exact_mod_cast (Nat.pow_le_pow_right (n := 2) (by norm_num) (by omega : 7 ≤ w - 1))
  rw [Ideal.fptosi, Ideal.toIntClamped_coe]
  congr 1
  rw [show (if (0 : ℝ) ≤ (n : ℝ) then ⌊(n : ℝ)⌋ else ⌈(n : ℝ)⌉) = n by split_ifs <;> simp]
  omega

/-- Reading a rounded and clipped number as a 32-bit integer and keeping the low 8 bits is reading it as an 8-bit one. -/
theorem fptosi_roundClip (z : EReal) : (Ideal.fptosi 32 (roundClip z)).setWidth 8 = Ideal.fptosi 8 (roundClip z) := by
  obtain ⟨n, h₀, h₁, hn⟩ := roundClip_int z
  rw [hn, fptosi_small (by norm_num) h₀ h₁, fptosi_small (by norm_num) h₀ h₁]
  apply BitVec.eq_of_toInt_eq
  rw [BitVec.toInt_setWidth, BitVec.toInt_ofInt]
  simp only [BitVec.toNat_ofInt]
  simp only [Int.bmod_def]
  omega

/-- Dividing by 127 is multiplying by 1/127. -/
theorem div_127 (m : EReal) : Ideal.div m ((127 : ℝ) : EReal) = m * ((1 / 127 : ℝ) : EReal) :=
  Ideal.div_coe (by norm_num) m

/-- For a positive `m` (an infinite one included), multiplying by `127 / m` is dividing by `m / 127`. -/
theorem mul_div_eq {m : EReal} (hm : 0 < m) (y : EReal) :
    y * Ideal.div ((127 : ℝ) : EReal) m = Ideal.div y (Ideal.div m ((127 : ℝ) : EReal)) := by
  rw [div_127]
  induction m with
  | bot => exact absurd hm (by simp)
  | top =>
    rw [EReal.top_mul_coe_of_pos (by norm_num)]
    simp [Ideal.div]
  | coe r =>
    have hr : (0 : ℝ) < r := EReal.coe_pos.1 hm
    rw [← EReal.coe_mul, Ideal.div_coe hr.ne', Ideal.div_coe (by positivity), ← EReal.coe_mul]
    congr 2
    field_simp

/-! ### One row -/

/-- A row of 4096 numbers. -/
abbrev Row := Fin 4096 → EReal

/-- The normalised row of a sum of two rows: each element times the reciprocal root of the mean square plus epsilon, times
    its weight. The words are those of 4096 and of epsilon. -/
def norm (x z g : Row) : Row := fun k =>
  (x k + z k) * Ideal.rsqrt (Ideal.div (∑ j, (x j + z j) * (x j + z j)) (Ideal.ofBits .f32 0x45800000#32)
    + Ideal.ofBits .f32 0x3727C5AC#32) * g k

/-- A row multiplied by its smoothing factors. -/
def smooth (y s : Row) : Row := fun k => y k * s k

/-- The greatest magnitude of a row. -/
def absMax (y : Row) : EReal := Finset.univ.fold max (Ideal.ofBits .f32 0xFF800000#32) fun k => max (y k) (-(y k))

/-- The scale of a row. -/
def scale (y : Row) : EReal := Ideal.div (absMax y) ((127 : ℝ) : EReal)

/-- The code of element `k` of a row: the quotient by the scale, rounded, clipped and read as an 8-bit integer. -/
def code (y : Row) (k : Fin 4096) : BitVec 8 := Ideal.fptosi 8 (roundClip (Ideal.div (y k) (scale y)))

/-- The scale the way the kernel computes it. -/
def scaleByProduct (y : Row) : EReal := absMax y * ((1 / 127 : ℝ) : EReal)

/-- The code the way the kernel computes it. -/
def codeByProduct (y : Row) (k : Fin 4096) : BitVec 8 :=
  Ideal.fptosi 8 (roundClip (y k * Ideal.div ((127 : ℝ) : EReal) (absMax y)))

/-- The greatest magnitude of a row isn't negative. -/
theorem absMax_nonneg (y : Row) : 0 ≤ absMax y := by
  rw [absMax, Finset.le_fold_max]
  refine .inr ⟨0, Finset.mem_univ _, ?_⟩
  rcases le_total 0 (y 0) with h | h
  · exact le_max_of_le_left h
  · exact le_max_of_le_right (EReal.neg_nonneg.2 h)

/-- The two scales are the same. -/
theorem scaleByProduct_eq (y : Row) : scaleByProduct y = scale y := (div_127 _).symm

/-- Where the scale isn't zero the two codes are the same. -/
theorem codeByProduct_eq (y : Row) (k : Fin 4096) (h : scale y ≠ 0) : codeByProduct y k = code y k := by
  have hm : 0 < absMax y := (absMax_nonneg y).lt_of_ne fun h0 => h (by rw [scale, div_127, ← h0, zero_mul])
  rw [codeByProduct, code, scale, mul_div_eq hm]

/-- Where the scale is zero they differ: the kernel's code is 0, and the reference's, of the quotient 0 / 0, is -128. -/
theorem codes_of_zero_row (y : Row) (k : Fin 4096) (h : absMax y = 0) :
    codeByProduct y k = BitVec.ofInt 8 0 ∧ code y k = BitVec.ofInt 8 (-128) := by
  have hk : max (y k) (-(y k)) ≤ 0 := h ▸ (Finset.le_fold_max _).2 (.inr ⟨k, Finset.mem_univ _, le_rfl⟩)
  have hy : y k = 0 := le_antisymm (le_of_max_le_left hk) (by simpa using EReal.neg_le_neg_iff.2 (le_of_max_le_right hk))
  have h0 : roundClip 0 = (((0 : ℤ) : ℝ) : EReal) := by
    rw [roundClip, show (0 : EReal) = ((0 : ℝ) : EReal) from rfl, Ideal.liftRound_coe,
      show Ideal.roundHalfEven 0 = 0 by norm_num [Ideal.roundHalfEven], max_eq_right, min_eq_right] <;>
      exact EReal.coe_le_coe_iff.2 (by norm_num)
  have hb : roundClip ⊥ = (((-128 : ℤ) : ℝ) : EReal) := by
    rw [roundClip, show Ideal.liftRound Ideal.roundHalfEven ⊥ = ⊥ from rfl, max_eq_left bot_le, min_eq_right]
    · norm_num
    · exact EReal.coe_le_coe_iff.2 (by norm_num)
  constructor
  · rw [codeByProduct, hy, zero_mul, h0, fptosi_small le_rfl (by norm_num) (by norm_num)]
  · rw [code, scale, div_127, h, zero_mul, hy, show Ideal.div 0 0 = ⊥ by simp [Ideal.div], hb,
      fptosi_small le_rfl le_rfl (by norm_num)]

end Cert.Rows

end
-- ==== Proof.Block.lean ====
/-
  One block of the kernel, read at an index: what the body computes of 256 rows is, row by row, the sum of the two inputs'
  rows, the normalised row, and for each quantiser the scale and the codes of the smoothed row, the way the kernel
  computes them (`scaleByProduct`, `codeByProduct`).
-/
module

public import proofs.«01_k».proof.Proof.Quantiser
public import proofs.«01_k».proof.Proof.Gen.KernelIdeal.Frame
public import Idealize.ShloMosaic.Lib.Pointwise

@[expose] public section

set_option maxRecDepth 16384

noncomputable section

namespace Cert.KernelIdeal.Block

open Idealize.ShloMosaic Cert.KernelIdeal Cert.KernelIdeal.Gen Cert.Rows

/-- Row `r` of a block of 256 rows. -/
abbrev row (v : FVec Ideal S256x4096 .f32) (r : Fin 256) : Row := fun k => v (ix2 r k)

/-- The one row of a vector of 4096 factors. -/
abbrev vec (v : FVec Ideal S1x4096 .f32) : Row := fun k => v (ix2 (0 : Fin 1) k)

variable (x z y : FVec Ideal S256x4096 .f32) (g s : FVec Ideal S1x4096 .f32) (r : Fin 256) (k : Fin 4096)

/-- The constant that the kernel multiplies a row's greatest magnitude by is 1/127. -/
theorem inv_qmax : Named.named (F := Ideal) (φ := .f32) κ "inv_qmax" 0x3C010204#32 = ((1 / 127 : ℝ) : EReal) :=
  IdealRules.named_const.ideal_named_scalar _ _ _ _ rfl

/-- The block's sum. -/
theorem sum_apply : k0_pay6 (F := Ideal) x z (ix2 r k) = row x r k + row z r k := by
  pointwise [k0_pay6]

/-- The block's normalised rows. -/
theorem norm_apply : k0_pay7 (F := Ideal) x z g (ix2 r k) = norm (row x r) (row z r) (vec g) k := by
  rw [show norm (row x r) (row z r) (vec g) k = (row x r k + row z r k) * Ideal.rsqrt (Ideal.div
    (∑ j, (row x r j + row z r j) * (row x r j + row z r j)) (Ideal.ofBits .f32 0x45800000#32)
    + Ideal.ofBits .f32 0x3727C5AC#32) * vec g k from rfl]
  pointwise [k0_pay7, sum_apply]

/-- The block's smoothed rows. -/
theorem smooth_apply : k0_pay2 (F := Ideal) y s (ix2 r k) = smooth (row y r) (vec s) k := by
  pointwise [k0_pay2, smooth]

/-- The greatest magnitude of each smoothed row. -/
theorem absMax_apply (q : Fin 1) : k0_pay3 (F := Ideal) y s (ix2 r q) = absMax (smooth (row y r) (vec s)) := by
  rw [absMax]
  pointwise [k0_pay3, smooth_apply, Ideal.absf_def]

/-- The scales as the body lays them out, of any column of greatest magnitudes. -/
theorem scale_of (M : FVec Ideal S256x1 .f32) (p q : Fin 1) :
    shapeCast S1x1x256 (mulf (transpose S1x256 [1, 0] M transposes_S256x1_p1_0_S1x256)
      (broadcast S1x256 (Named.named (F := Ideal) (φ := .f32) κ "inv_qmax" 0x3C010204#32))) shapeCasts_S1x256_S1x1x256
      (ix3 p q r) = M (ix2 r 0) * ((1 / 127 : ℝ) : EReal) := by
  pointwise [inv_qmax]

/-- The scale of each smoothed row. -/
theorem scale_apply (p q : Fin 1) : k0_pay4 (F := Ideal) y s (ix3 p q r) = scaleByProduct (smooth (row y r) (vec s)) :=
  (scale_of r (k0_pay3 (F := Ideal) y s) p q).trans (congrArg (· * ((1 / 127 : ℝ) : EReal)) (absMax_apply y s r 0))

/-- The codes as the body computes them, of any block and any column of greatest magnitudes. -/
theorem code_of (M : FVec Ideal S256x1 .f32) :
    fptosi (F := Ideal) 8 (minimumf (broadcast S256x4096 (Scalar.ofBits .f32 0x42FE0000#32))
      (maximumf (broadcast S256x4096 (Scalar.ofBits .f32 0xC3000000#32)) (roundeven (mulf y (broadcastTo S256x4096
        (divf (broadcast S256x1 (Scalar.ofBits .f32 0x42FE0000#32)) M) broadcasts_S256x1_S256x4096))))) (ix2 r k)
      = Ideal.fptosi 8 (roundClip (y (ix2 r k) * Ideal.div ((127 : ℝ) : EReal) (M (ix2 r 0)))) := by
  pointwise [word_127, word_neg128, roundClip]
  rfl

/-- The codes of each smoothed row. -/
theorem code_apply : k0_pay5 (F := Ideal) y s (ix2 r k) = codeByProduct (smooth (row y r) (vec s)) k :=
  (code_of (k0_pay2 (F := Ideal) y s) r k (k0_pay3 (F := Ideal) y s)).trans
    (by rw [absMax_apply, smooth_apply, codeByProduct])

/-- The first quantiser's scales and codes are computed as the second's, of the normalised block. -/
theorem first_scale : k0_pay10 (F := Ideal) x z g s = k0_pay4 (F := Ideal) (k0_pay7 (F := Ideal) x z g) s := by unfold k0_pay10 k0_pay4 k0_pay9 k0_pay3 k0_pay8 k0_pay2; rfl

/-- So are its codes. -/
theorem first_code : k0_pay1 (F := Ideal) (k0_pay8 x z g s) (k0_pay11 x z g s) = k0_pay5 (F := Ideal) (k0_pay7 (F := Ideal) x z g) s := rfl

end Cert.KernelIdeal.Block

end
-- ==== Proof.Arrays.lean ====
/-
  The arrays that the kernel's grid leaves: the 32 blocks of 256 rows tile the 8192 rows, so each result array is, row by row,
  one function of the flattened inputs.
-/
module

public import proofs.«01_k».proof.Proof.Block
public import Idealize.ShloMosaic.Lib.Pipeline.ValueKit
public import Idealize.ShloMosaic.Lib.Claim

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Block Cert.Rows

variable (m : (ℓ : Loc nD τ sig) → Buf (Elt Ideal) ℓ) (c : Dev nD)

/-- Row `r` of an array of 8192 rows. -/
abbrev bigRow (v : FVec Ideal S8192x4096 .f32) (r : Fin 8192) : Row := fun k => v (ix2 r k)

/-- The two inputs, as the grid reads them: 8192 rows each. -/
abbrev inX : FVec Ideal S8192x4096 .f32 := V m c main_v0
abbrev inZ : FVec Ideal S8192x4096 .f32 := V m c main_v1

/-- The weights and the two vectors of smoothing factors, as the grid reads them: one row each. -/
abbrev inG : FVec Ideal S1x4096 .f32 := V m c main_v2
abbrev inS1 : FVec Ideal S1x4096 .f32 := V m c main_v3
abbrev inS2 : FVec Ideal S1x4096 .f32 := V m c main_v4

/-- The normalised row `r`. -/
abbrev normRow (r : Fin 8192) : Row := norm (bigRow (inX m c) r) (bigRow (inZ m c) r) (vec (inG m c))

/-- The block of every window at every point of the grid: block `t` of the rows, or the whole of a vector. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0, 0] ∧ win0_9.index t = ![t.val, 0]
    ∧ win0_10.index t = ![t.val, 0, 0] :=
  (by decide +kernel : ∀ t : Fin grid0.N, _)

/-- Row `r` of block `t` is row `256 t + r`. -/
def rowAt (t : Fin 32) (r : Fin 256) : Fin 8192 := ⟨256 * t.val + r.val, by omega⟩

/-- A point of the grid as the number of its block. -/
abbrev pt (t : Fin cfg0.N) : Fin 32 := ⟨t.val, N_0 ▸ t.isLt⟩

/-! ### The blocks of the inputs -/

/-- Row `r` of the first input's block is the matching row of the whole array. -/
theorem row_x (t : Fin cfg0.N) (r : Fin 256) : row (iblk m c 0 t) r = bigRow (inX m c) (rowAt (pt t) r) := by
  funext k
  show iblk m c 0 t (ix2 r k) = V m c main_v0 (ix2 (rowAt (pt t) r) k)
  blk_ext [iblk, idx t, rowAt]

/-- The same for the second input. -/
theorem row_z (t : Fin cfg0.N) (r : Fin 256) : row (iblk m c 1 t) r = bigRow (inZ m c) (rowAt (pt t) r) := by
  funext k
  show iblk m c 1 t (ix2 r k) = V m c main_v1 (ix2 (rowAt (pt t) r) k)
  blk_ext [iblk, idx t, rowAt]

/-- The block of the weights is the whole vector at every step. -/
theorem vec_g (t : Fin cfg0.N) : vec (iblk m c 2 t) = vec (inG m c) := by
  funext k
  show iblk m c 2 t (ix2 0 k) = V m c main_v2 (ix2 0 k)
  blk_ext [iblk, idx t]

/-- The same for the first quantiser's factors. -/
theorem vec_s1 (t : Fin cfg0.N) : vec (iblk m c 3 t) = vec (inS1 m c) := by
  funext k
  show iblk m c 3 t (ix2 0 k) = V m c main_v3 (ix2 0 k)
  blk_ext [iblk, idx t]

/-- The same for the second quantiser's factors. -/
theorem vec_s2 (t : Fin cfg0.N) : vec (iblk m c 4 t) = vec (inS2 m c) := by
  funext k
  show iblk m c 4 t (ix2 0 k) = V m c main_v4 (ix2 0 k)
  blk_ext [iblk, idx t]

/-! ### What one point leaves -/

/-- The normalised block that point `t` computes. -/
abbrev normBlock (t : Fin cfg0.N) : FVec Ideal S256x4096 .f32 :=
  k0_pay7 (F := Ideal) (iblk m c 0 t) (iblk m c 1 t) (iblk m c 2 t)

/-- The second quantiser reads the same block. -/
theorem second_block (t : Fin cfg0.N) :
    k0_pay12 (F := Ideal) (iblk m c 0 t) (iblk m c 1 t) (iblk m c 2 t) (iblk m c 3 t) (iblk m c 4 t) = normBlock m c t := by
  unfold k0_pay12
  frame_out

/-- Its rows are the normalised rows of the block. -/
theorem row_normBlock (t : Fin cfg0.N) (r : Fin 256) : row (normBlock m c t) r = normRow m c (rowAt (pt t) r) := by
  funext k
  exact (norm_apply _ _ _ r k).trans (by rw [row_x, row_z, vec_g])

/-- The codes of the normalised block under a row of factors, at row `r`. -/
theorem code_block (t : Fin cfg0.N) (s : FVec Ideal S1x4096 .f32) (r : Fin 256) (k : Fin 4096) :
    k0_pay5 (F := Ideal) (normBlock m c t) s (ix2 r k) = codeByProduct (smooth (normRow m c (rowAt (pt t) r)) (vec s)) k := by
  rw [code_apply, row_normBlock]

/-- The scales of the normalised block under a row of factors, at row `r`. -/
theorem scale_block (t : Fin cfg0.N) (s : FVec Ideal S1x4096 .f32) (p q : Fin 1) (r : Fin 256) :
    k0_pay4 (F := Ideal) (normBlock m c t) s (ix3 p q r) = scaleByProduct (smooth (normRow m c (rowAt (pt t) r)) (vec s)) := by
  rw [scale_apply, row_normBlock]

/-! ### The result arrays -/

/-- An array of 8192 rows, given row by row. -/
abbrev byRow {α : Type} (f : Fin 8192 → Fin 4096 → α) : S8192x4096.Idx → α := fun i => f (i 0) (i 1)

/-- An array of 32 by 256 scales, given row by row. -/
abbrev byBlock {α : Type} (f : Fin 8192 → α) : S32x1x256.Idx → α := fun i => f (rowAt (i 0) (i 2))

/-- A block that holds, row by row, the rows of block `t` of an array holds at each of its indices the array's entry at the
    index 256 `t` rows further down. -/
theorem block_eq {α : Type} (P : S256x4096.Idx → α) (f : Fin 8192 → Fin 4096 → α) (t : Fin 32)
    (h : ∀ (r : Fin 256) (k : Fin 4096), P (ix2 r k) = f (rowAt t r) k) (y : S256x4096.Idx) (i : S8192x4096.Idx)
    (h0 : (i 0 : ℕ) = t.val * 256 + (y 0 : ℕ)) (h1 : (i 1 : ℕ) = (y 1 : ℕ)) : P y = byRow f i := by
  have e0 : i 0 = rowAt t (y 0) := Fin.ext (by rw [h0]; show _ = 256 * t.val + (y 0 : ℕ); rw [Nat.mul_comm])
  have e1 : i 1 = y 1 := Fin.ext h1
  exact (congrArg P (eq_ix2 y)).trans ((h (y 0) (y 1)).trans (congrArg₂ f e0.symm e1.symm))

/-- The same of a block of 256 scales. -/
theorem scales_eq {α : Type} (P : S1x1x256.Idx → α) (f : Fin 8192 → α) (t : Fin 32)
    (h : ∀ (p q : Fin 1) (r : Fin 256), P (ix3 p q r) = f (rowAt t r)) (y : S1x1x256.Idx) (i : S32x1x256.Idx)
    (h0 : (i 0 : ℕ) = t.val) (h2 : (i 2 : ℕ) = (y 2 : ℕ)) : P y = byBlock f i := by
  have e0 : i 0 = t := Fin.ext h0
  have e2 : i 2 = y 2 := Fin.ext h2
  exact (congrArg P (eq_ix3 y)).trans ((h (y 0) (y 1) (y 2)).trans (congrArg f (congrArg₂ rowAt e0.symm e2.symm)))

/-- The sums. -/
theorem final_sum : (dats m 0 c).arrAt 5 (cfgs 0).N = byRow fun r k => bigRow (inX m c) r k + bigRow (inZ m c) r k := by
  refine (dats m 0 c).arrAt_eq_of_covers 5 _ (by decide +kernel) fun t _ y => ?_
  blk_simp
  rw [after0_5]; frame_out
  refine block_eq _ _ (pt t) (fun r k => (sum_apply _ _ r k).trans (by rw [row_x, row_z])) y _ ?_ ?_ <;> blk_simp [idx t]

/-- The normalised rows. -/
theorem final_norm : (dats m 0 c).arrAt 6 (cfgs 0).N = byRow (normRow m c) := by
  refine (dats m 0 c).arrAt_eq_of_covers 6 _ (by decide +kernel) fun t _ y => ?_
  blk_simp
  rw [after0_6]; frame_out
  refine block_eq _ _ (pt t) (fun r k => congrFun (row_normBlock m c t r) k) y _ ?_ ?_ <;> blk_simp [idx t]

/-- The first codes. -/
theorem final_code1 : (dats m 0 c).arrAt 7 (cfgs 0).N
    = byRow fun r => codeByProduct (smooth (normRow m c r) (vec (inS1 m c))) := by
  refine (dats m 0 c).arrAt_eq_of_covers 7 _ (by decide +kernel) fun t _ y => ?_
  blk_simp
  rw [after0_7]; frame_out
  rw [first_code]
  refine block_eq _ _ (pt t) (fun r k => (code_block m c t _ r k).trans (by rw [vec_s1])) y _ ?_ ?_ <;> blk_simp [idx t]

/-- The first scales. -/
theorem final_scale1 : (dats m 0 c).arrAt 8 (cfgs 0).N
    = byBlock fun r => scaleByProduct (smooth (normRow m c r) (vec (inS1 m c))) := by
  refine (dats m 0 c).arrAt_eq_of_covers 8 _ (by decide +kernel) fun t _ y => ?_
  blk_simp
  rw [after0_8]; frame_out
  rw [first_scale]
  refine scales_eq _ _ (pt t) (fun p q r => (scale_block m c t _ p q r).trans (by rw [vec_s1])) y _ ?_ ?_ <;> blk_simp [idx t]

/-- The second codes. -/
theorem final_code2 : (dats m 0 c).arrAt 9 (cfgs 0).N
    = byRow fun r => codeByProduct (smooth (normRow m c r) (vec (inS2 m c))) := by
  refine (dats m 0 c).arrAt_eq_of_covers 9 _ (by decide +kernel) fun t _ y => ?_
  blk_simp
  rw [after0_9]; frame_out
  rw [second_block]
  refine block_eq _ _ (pt t) (fun r k => (code_block m c t _ r k).trans (by rw [vec_s2])) y _ ?_ ?_ <;> blk_simp [idx t]

/-- The second scales. -/
theorem final_scale2 : (dats m 0 c).arrAt 10 (cfgs 0).N
    = byBlock fun r => scaleByProduct (smooth (normRow m c r) (vec (inS2 m c))) := by
  refine (dats m 0 c).arrAt_eq_of_covers 10 _ (by decide +kernel) fun t _ y => ?_
  blk_simp
  rw [after0_10]; frame_out
  rw [second_block]
  refine scales_eq _ _ (pt t) (fun p q r => (scale_block m c t _ p q r).trans (by rw [vec_s2])) y _ ?_ ?_ <;> blk_simp [idx t]

end Cert.KernelIdeal.Arrays

end
-- ==== Proof.Spec.lean ====
/-
  The six results of the reference as functions of the five arguments, row by row: what the kernel's arrays and the
  reference's terms are both shown to be.
-/
module

public import proofs.«01_k».proof.Proof.Quantiser
public import Idealize.ShloMosaic.Lib.Pointwise

@[expose] public section

noncomputable section

namespace Cert.Rows

open Idealize.ShloMosaic

/-- The shape of the inputs, of the scales and of the vectors of factors. -/
abbrev Cube : Shape := ⟨3, ![2, 4096, 4096]⟩
abbrev Plane : Shape := ⟨2, ![2, 4096]⟩
abbrev Line : Shape := ⟨1, ![4096]⟩

/-- Row `s` of batch `b`. -/
abbrev rowOf (x : FVec Ideal Cube .f32) (b : Fin 2) (s : Fin 4096) : Row := fun k => x (ix3 b s k)

/-- A vector of 4096 factors as a row. -/
abbrev lineOf (g : FVec Ideal Line .f32) : Row := fun k => g (ix1 k)

/-- An array given row by row, and an array of one number per row. -/
abbrev cube {α : Type} (f : Fin 2 → Fin 4096 → Fin 4096 → α) : Cube.Idx → α := fun i => f (i 0) (i 1) (i 2)
abbrev plane {α : Type} (f : Fin 2 → Fin 4096 → α) : Plane.Idx → α := fun i => f (i 0) (i 1)

variable (x z : FVec Ideal Cube .f32) (g s : FVec Ideal Line .f32)

/-- The sum of the two inputs at an element of a row. -/
def sumAt (b : Fin 2) (r : Fin 4096) : Row := fun k => rowOf x b r k + rowOf z b r k

/-- The normalised row. -/
def normAt (b : Fin 2) (r : Fin 4096) : Row := norm (rowOf x b r) (rowOf z b r) (lineOf g)

/-- The smoothed row. -/
def smoothAt (b : Fin 2) (r : Fin 4096) : Row := smooth (normAt x z g b r) (lineOf s)

/-- Two arrays that agree at every coordinate are equal. -/
theorem eq_cube {α : Type} (v : Cube.Idx → α) (f : Fin 2 → Fin 4096 → Fin 4096 → α) (h : ∀ b r k, v (ix3 b r k) = f b r k) :
    v = cube f := by
  funext i
  exact (congrArg v (eq_ix3 i)).trans (h (i 0) (i 1) (i 2))

/-- The same for arrays of one number per row. -/
theorem eq_plane {α : Type} (v : Plane.Idx → α) (f : Fin 2 → Fin 4096 → α) (h : ∀ b r, v (ix2 b r) = f b r) : v = plane f := by
  funext i
  exact (congrArg v (eq_ix2 i)).trans (h (i 0) (i 1))

end Cert.Rows

end
-- ==== Proof.Results.lean ====
/-
  The kernel's run: every result, after the reshapes around the grid, as a function of the five arguments.
-/
module

public import proofs.«01_k».proof.Proof.Arrays
public import proofs.«01_k».proof.Proof.Spec

@[expose] public section

set_option maxRecDepth 16384

noncomputable section

namespace Cert.KernelIdeal.Results

open Idealize.ShloMosaic Idealize.ShloMosaic.TcCoe Idealize.SL.Sem
open Cert.KernelIdeal Cert.KernelIdeal.Gen Cert.KernelIdeal.Block Cert.KernelIdeal.Arrays Cert.Rows

variable (m : (ℓ : Loc nD τ sig) → Buf (Elt Ideal) ℓ) (ρ : Dev nD → PrngReg) (c : Dev nD)

/-- The five arguments of device `c`. -/
abbrev argX : FVec Ideal Cube .f32 := m ((c : Thread nD τ).loc main_arg0)
abbrev argZ : FVec Ideal Cube .f32 := m ((c : Thread nD τ).loc main_arg1)
abbrev argG : FVec Ideal Line .f32 := m ((c : Thread nD τ).loc main_arg2)
abbrev argS1 : FVec Ideal Line .f32 := m ((c : Thread nD τ).loc main_arg3)
abbrev argS2 : FVec Ideal Line .f32 := m ((c : Thread nD τ).loc main_arg4)

/-! ### The reshapes before the grid -/

/-- The arrays that the grid reads are the arguments reshaped. -/
theorem inputs_eq : inX m c = shapeCast S8192x4096 (argX m c) shapeCasts_S2x4096x4096_S8192x4096
    ∧ inZ m c = shapeCast S8192x4096 (argZ m c) shapeCasts_S2x4096x4096_S8192x4096
    ∧ inG m c = shapeCast S1x4096 (argG m c) shapeCasts_S4096_S1x4096
    ∧ inS1 m c = shapeCast S1x4096 (argS1 m c) shapeCasts_S4096_S1x4096
    ∧ inS2 m c = shapeCast S1x4096 (argS2 m c) shapeCasts_S4096_S1x4096 := by
  unfold inX inZ inG inS1 inS2 V V0
  simp only [List.flatten_cons, List.flatten_nil, List.append_nil]
  after_results
  exact ⟨rfl, rfl, rfl, rfl, rfl⟩

/-- Row `s` of batch `b` is row `4096 b + s` of the flattened array. -/
def flat (b : Fin 2) (s : Fin 4096) : Fin 8192 := ⟨b.val * 4096 + s.val, by omega⟩

/-- A flattened array's rows are the array's. -/
theorem bigRow_flat (v : FVec Ideal Cube .f32) (b : Fin 2) (s : Fin 4096) :
    bigRow (shapeCast S8192x4096 v shapeCasts_S2x4096x4096_S8192x4096) (flat b s) = rowOf v b s := by
  funext k
  show shapeCast S8192x4096 v shapeCasts_S2x4096x4096_S8192x4096 (ix2 (flat b s) k) = v (ix3 b s k)
  pointwise
  have hb : (b.val * 4096 + s.val) / 4096 = b.val := by omega
  have hs : (b.val * 4096 + s.val) % 4096 = s.val := by omega
  exact congrArg v ((ix3_inj ..).2 ⟨Fin.ext hb, Fin.ext hs, rfl⟩)

/-- A vector laid out as one row is that vector. -/
theorem vec_line (v : FVec Ideal Line .f32) : vec (shapeCast S1x4096 v shapeCasts_S4096_S1x4096) = lineOf v := by
  funext k
  show shapeCast S1x4096 v shapeCasts_S4096_S1x4096 (ix2 0 k) = v (ix1 k)
  pointwise

/-- The normalised row of the flattened arrays is that of the arguments. -/
theorem normRow_flat (b : Fin 2) (s : Fin 4096) : normRow m c (flat b s) = normAt (argX m c) (argZ m c) (argG m c) b s := by
  rw [normRow, (inputs_eq m c).1, (inputs_eq m c).2.1, (inputs_eq m c).2.2.1, bigRow_flat, bigRow_flat, vec_line, normAt]

/-- So are the smoothed rows. -/
theorem smooth1_flat (b : Fin 2) (s : Fin 4096) :
    smooth (normRow m c (flat b s)) (vec (inS1 m c)) = smoothAt (argX m c) (argZ m c) (argG m c) (argS1 m c) b s := by
  rw [normRow_flat, (inputs_eq m c).2.2.2.1, vec_line, smoothAt]

/-- The same for the second quantiser. -/
theorem smooth2_flat (b : Fin 2) (s : Fin 4096) :
    smooth (normRow m c (flat b s)) (vec (inS2 m c)) = smoothAt (argX m c) (argZ m c) (argG m c) (argS2 m c) b s := by
  rw [normRow_flat, (inputs_eq m c).2.2.2.2, vec_line, smoothAt]

/-! ### The reshapes after the grid -/

/-- An array of 8192 rows, split into two batches. -/
theorem split_rows {α : Type} (f : Fin 8192 → Fin 4096 → α) :
    shapeCast S2x4096x4096 (byRow f) shapeCasts_S8192x4096_S2x4096x4096 = cube fun b s k => f (flat b s) k := by
  refine eq_cube _ _ fun b s k => ?_
  pointwise
  rfl

/-- The scales of 32 blocks of 256 rows, split into two batches. -/
theorem split_blocks {α : Type} (f : Fin 8192 → α) :
    shapeCast S2x4096 (byBlock f) shapeCasts_S32x1x256_S2x4096 = plane fun b s => f (flat b s) := by
  refine eq_plane _ _ fun b s => ?_
  pointwise
  show f (rowAt _ _) = _
  refine congrArg f (Fin.ext ?_)
  show 256 * (b.val * 16 + s.val / 256) + s.val % 256 = b.val * 4096 + s.val
  omega

/-! ### The results -/

/-- What the program leaves in a buffer: the reshapes after the grid, of the arrays that the grid leaves. -/
abbrev left (b : Ref sig .tc) : Buf (Elt Ideal) ((c : Thread nD τ).loc b) :=
  Pipeline.afterTail₀ cfgs (dats m) 0 (V0 m) [hostOps1] c b

/-- The six results are the grid's six arrays reshaped. -/
theorem left_eq :
    left m c main_v6 = shapeCast S2x4096x4096 ((dats m 0 c).arrAt 5 (cfgs 0).N) shapeCasts_S8192x4096_S2x4096x4096
    ∧ left m c main_v7 = shapeCast S2x4096x4096 ((dats m 0 c).arrAt 6 (cfgs 0).N) shapeCasts_S8192x4096_S2x4096x4096
    ∧ left m c main_v8 = shapeCast S2x4096x4096 ((dats m 0 c).arrAt 7 (cfgs 0).N) shapeCasts_S8192x4096_S2x4096x4096
    ∧ left m c main_v9 = shapeCast S2x4096 ((dats m 0 c).arrAt 8 (cfgs 0).N) shapeCasts_S32x1x256_S2x4096
    ∧ left m c main_v10 = shapeCast S2x4096x4096 ((dats m 0 c).arrAt 9 (cfgs 0).N) shapeCasts_S8192x4096_S2x4096x4096
    ∧ left m c main_v11 = shapeCast S2x4096 ((dats m 0 c).arrAt 10 (cfgs 0).N) shapeCasts_S32x1x256_S2x4096 := by
  have arr := Pipeline.withArrays_arr spec0 launch0.win.arr_inj c (V0 m c) fun w => (dats m 0 c).arrAt w (cfgs 0).N
  unfold left Pipeline.afterTail₀
  simp only [List.flatten_cons, List.flatten_nil, List.append_nil]
  after_results
  erw [arr 5, arr 6, arr 7, arr 8, arr 9, arr 10]
  exact ⟨rfl, rfl, rfl, rfl, rfl, rfl⟩

/-- The six results as functions of the arguments. -/
theorem results_eq :
    left m c main_v6 = (cube (sumAt (argX m c) (argZ m c)))
    ∧ left m c main_v7 = (cube (normAt (argX m c) (argZ m c) (argG m c)))
    ∧ left m c main_v8 = (cube fun b r => codeByProduct (smoothAt (argX m c) (argZ m c) (argG m c) (argS1 m c) b r))
    ∧ left m c main_v9 = (plane fun b r => scaleByProduct (smoothAt (argX m c) (argZ m c) (argG m c) (argS1 m c) b r))
    ∧ left m c main_v10 = (cube fun b r => codeByProduct (smoothAt (argX m c) (argZ m c) (argG m c) (argS2 m c) b r))
    ∧ left m c main_v11 = (plane fun b r => scaleByProduct (smoothAt (argX m c) (argZ m c) (argG m c) (argS2 m c) b r)) := by
  obtain ⟨h0, h1, h2, h3, h4, h5⟩ := left_eq m c
  rw [h0, h1, h2, h3, h4, h5, final_sum, final_norm, final_code1, final_scale1, final_code2, final_scale2]
  refine ⟨(split_rows _).trans ?_, (split_rows _).trans ?_, (split_rows _).trans ?_, (split_blocks _).trans ?_,
    (split_rows _).trans ?_, (split_blocks _).trans ?_⟩
  · rw [(inputs_eq m c).1, (inputs_eq m c).2.1]
    exact congrArg cube (funext fun b => funext fun r => by rw [bigRow_flat, bigRow_flat]; rfl)
  · exact congrArg cube (funext fun b => funext fun r => normRow_flat m c b r)
  · exact congrArg cube (funext fun b => funext fun r => by rw [smooth1_flat])
  · exact congrArg plane (funext fun b => funext fun r => by rw [smooth1_flat])
  · exact congrArg cube (funext fun b => funext fun r => by rw [smooth2_flat])
  · exact congrArg plane (funext fun b => funext fun r => by rw [smooth2_flat])

/-- The kernel's run: the six results as above, the arguments unchanged. -/
theorem run : θ_run defs (onTc (τ := τ) (main (F := Ideal))) ⟨m, fun _ => 0, ρ⟩ fun r => ∀ c : Dev nD,
    r.2.mem ((c : Thread nD τ).loc main_v6) = (cube (sumAt (argX m c) (argZ m c)))
    ∧ r.2.mem ((c : Thread nD τ).loc main_v7) = (cube (normAt (argX m c) (argZ m c) (argG m c)))
    ∧ r.2.mem ((c : Thread nD τ).loc main_v8) = (cube fun b r => codeByProduct (smoothAt (argX m c) (argZ m c) (argG m c) (argS1 m c) b r))
    ∧ r.2.mem ((c : Thread nD τ).loc main_v9) = (plane fun b r => scaleByProduct (smoothAt (argX m c) (argZ m c) (argG m c) (argS1 m c) b r))
    ∧ r.2.mem ((c : Thread nD τ).loc main_v10) = (cube fun b r => codeByProduct (smoothAt (argX m c) (argZ m c) (argG m c) (argS2 m c) b r))
    ∧ r.2.mem ((c : Thread nD τ).loc main_v11) = (plane fun b r => scaleByProduct (smoothAt (argX m c) (argZ m c) (argG m c) (argS2 m c) b r))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨((h c).2 main_v6 (Pipeline.mem_restRefs_of main_v6 (by decide) (by decide))).trans (results_eq m c).1,
    ((h c).2 main_v7 (Pipeline.mem_restRefs_of main_v7 (by decide) (by decide))).trans (results_eq m c).2.1,
    ((h c).2 main_v8 (Pipeline.mem_restRefs_of main_v8 (by decide) (by decide))).trans (results_eq m c).2.2.1,
    ((h c).2 main_v9 (Pipeline.mem_restRefs_of main_v9 (by decide) (by decide))).trans (results_eq m c).2.2.2.1,
    ((h c).2 main_v10 (Pipeline.mem_restRefs_of main_v10 (by decide) (by decide))).trans (results_eq m c).2.2.2.2.1,
    ((h c).2 main_v11 (Pipeline.mem_restRefs_of main_v11 (by decide) (by decide))).trans (results_eq m c).2.2.2.2.2,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩) (run_main m ρ)

end Cert.KernelIdeal.Results

end
-- ==== Proof.Reference.lean ====
/-
  The reference, read at an index: its six results are, row by row, the sum of the two inputs, the normalised row, and for
  each quantiser the codes and the scale of the smoothed row (`code`, `scale`).
-/
module

public import proofs.«01_k».proof.Proof.Spec
public import proofs.«01_k».proof.Proof.Gen.ReferenceIdeal.Run
public import Idealize.ShloMosaic.Lib.Pointwise

@[expose] public section

set_option maxRecDepth 16384

noncomputable section

namespace Cert.ReferenceIdeal.Results

open Idealize.ShloMosaic Cert.ReferenceIdeal Cert.ReferenceIdeal.Gen Cert.Rows Idealize.ShloMosaic.TcCoe Idealize.SL.Sem

variable (x z a n y : FVec Ideal Cube .f32) (g s : FVec Ideal Line .f32) (w : FVec Ideal S2x4096x1 .f32)
variable (b : Fin 2) (r k : Fin 4096)

/-! ### The reference's terms -/

/-- A vector of factors spread over all rows. -/
abbrev spread : FVec Ideal Cube .f32 := broadcastInDim S2x4096x4096 ![0, 1, 2] bcast_S1x1x4096_S2x4096x4096_0_1_2
  (broadcastInDim S1x1x4096 ![2] bcast_S4096_S1x1x4096_2 g)

/-- One number per row spread over the row. -/
abbrev along : FVec Ideal Cube .f32 :=
  broadcastInDim S2x4096x4096 ![0, 1, 2] bcast_S2x4096x1_S2x4096x4096_0_1_2 w

/-- The reciprocal root of the mean square plus epsilon, of each row. -/
abbrev factor : FVec Ideal S2x4096x1 .f32 := Host.rsqrt (addf (Host.divf (broadcastInDim S2x4096x1 ![0, 1]
  bcast_S2x4096_S2x4096x1_0_1 (Host.reduceAdd (mulf a a) (constant S_ .f32 0x00000000#32)
    reducesTo_S2x4096x4096_S2x4096_d2 h_S_)) (broadcastInDim S2x4096x1 ![] bcast_S_S2x4096x1 (constant S_ .f32 0x45800000#32)))
  (broadcastInDim S2x4096x1 ![] bcast_S_S2x4096x1 (constant S_ .f32 0x3727C5AC#32)))

/-- The normalised rows. -/
abbrev hostNorm : FVec Ideal Cube .f32 := mulf (mulf (addf x z) (along (factor (addf x z)))) (spread g)

/-- The scale of each row, as a column. -/
abbrev hostColumn : FVec Ideal S2x4096x1 .f32 := Host.divf (broadcastInDim S2x4096x1 ![0, 1] bcast_S2x4096_S2x4096x1_0_1
  (Host.reduce FloatOps.maximumf (Host.absf y) (constant S_ .f32 0xFF800000#32) reducesTo_S2x4096x4096_S2x4096_d2 h_S_))
  (broadcastInDim S2x4096x1 ![] bcast_S_S2x4096x1 (constant S_ .f32 0x42FE0000#32))

/-- The codes of rows whose scales are `w`. -/
abbrev hostCode : IVec Cube 8 := trunci 8 (fptosi 32 (minimumf (broadcastInDim S2x4096x4096 ![] bcast_S_S2x4096x4096
  (id (constant (F := Ideal) S_ .f32 0x42FE0000#32))) (maximumf (broadcastInDim S2x4096x4096 ![] bcast_S_S2x4096x4096
  (id (constant S_ .f32 0xC3000000#32))) (Host.roundeven (Host.divf y (along w)))))) natLt_8_32

/-! ### The terms at an index -/

/-- A spread vector at an element. -/
theorem spread_apply : spread g (ix3 b r k) = lineOf g k := by
  pointwise [spread]

/-- A spread column at an element. -/
theorem along_apply : along w (ix3 b r k) = w (ix3 b r 0) := by
  pointwise [along]

/-- The reciprocal root of a row. -/
theorem factor_apply (q : Fin 1) : factor a (ix3 b r q) = Ideal.rsqrt (Ideal.div (∑ j, rowOf a b r j * rowOf a b r j)
    (Ideal.ofBits .f32 0x45800000#32) + Ideal.ofBits .f32 0x3727C5AC#32) := by
  pointwise [factor, word_zero, zero_add]

/-- The reference's normalised row. -/
theorem norm_apply : hostNorm x z g (ix3 b r k) = normAt x z g b r k := by
  rw [show hostNorm x z g (ix3 b r k) = (x (ix3 b r k) + z (ix3 b r k)) * along (factor (addf x z)) (ix3 b r k) * spread g (ix3 b r k)
    from rfl, along_apply, factor_apply, spread_apply]
  rfl

/-- The reference's smoothed row. -/
theorem smooth_apply (h : ∀ b r k, n (ix3 b r k) = normAt x z g b r k) :
    mulf n (spread s) (ix3 b r k) = smoothAt x z g s b r k := by
  rw [show mulf n (spread s) (ix3 b r k) = n (ix3 b r k) * spread s (ix3 b r k) from rfl, h, spread_apply]
  rfl

/-- The reference's scale of a row. -/
theorem column_apply (q : Fin 1) : hostColumn y (ix3 b r q) = scale (rowOf y b r) := by
  rw [scale, absMax]
  pointwise [hostColumn, word_127, Ideal.absf_def]

/-- The same, reshaped to one number per row. -/
theorem scale_apply : shapeCast S2x4096 w shapeCasts_S2x4096x1_S2x4096 (ix2 b r) = w (ix3 b r 0) := by
  pointwise []

/-- The reference's codes of a row. -/
theorem code_apply : hostCode y w (ix3 b r k) = Ideal.fptosi 8 (roundClip (Ideal.div (y (ix3 b r k)) (w (ix3 b r 0)))) := by
  rw [← fptosi_roundClip, roundClip, ← word_127, ← word_neg128]
  pointwise [hostCode]
  rfl

/-! ### The results -/

/-- The codes and the scales of an array whose rows are known. -/
theorem codes_eq (f : Fin 2 → Fin 4096 → Row) (h : ∀ b r k, y (ix3 b r k) = f b r k) :
    hostCode y (hostColumn y) = cube fun b r => code (f b r) :=
  eq_cube _ _ fun b r k => by
    rw [code_apply, column_apply, h, show rowOf y b r = f b r from funext (h b r)]
    rfl

/-- The scales of such an array. -/
theorem scales_eq (f : Fin 2 → Fin 4096 → Row) (h : ∀ b r k, y (ix3 b r k) = f b r k) :
    shapeCast S2x4096 (hostColumn y) shapeCasts_S2x4096x1_S2x4096 = plane fun b r => scale (f b r) :=
  eq_plane _ _ fun b r => by
    rw [scale_apply, column_apply, show rowOf y b r = f b r from funext (h b r)]

/-- The reference's normalised rows multiplied by the factors are the smoothed rows. -/
theorem hostSmooth_apply : mulf (hostNorm x z g) (spread s) (ix3 b r k) = smoothAt x z g s b r k :=
  smooth_apply x z (hostNorm x z g) g s b r k (norm_apply x z g)

variable (m : (ℓ : Loc nD τ sig) → Buf (Elt Ideal) ℓ) (ρ : Dev nD → PrngReg)

/-- The five arguments. -/
abbrev argX (c : Dev nD) : FVec Ideal Cube .f32 := m ((c : Thread nD τ).loc main_arg0)
abbrev argZ (c : Dev nD) : FVec Ideal Cube .f32 := m ((c : Thread nD τ).loc main_arg1)
abbrev argG (c : Dev nD) : FVec Ideal Line .f32 := m ((c : Thread nD τ).loc main_arg2)
abbrev argS1 (c : Dev nD) : FVec Ideal Line .f32 := m ((c : Thread nD τ).loc main_arg3)
abbrev argS2 (c : Dev nD) : FVec Ideal Line .f32 := m ((c : Thread nD τ).loc main_arg4)

/-- The reference's run: its six results are those functions of the arguments, which are unchanged. -/
theorem run : θ_run defs (onTc (τ := τ) (main (F := Ideal))) ⟨m, fun _ => 0, ρ⟩ fun r => ∀ c : Dev nD,
    r.2.mem ((c : Thread nD τ).loc main_v0) = (cube (sumAt (argX m c) (argZ m c)))
    ∧ r.2.mem ((c : Thread nD τ).loc main_v13) = (cube (normAt (argX m c) (argZ m c) (argG m c)))
    ∧ r.2.mem ((c : Thread nD τ).loc main_v27) = (cube fun b r => code (smoothAt (argX m c) (argZ m c) (argG m c) (argS1 m c) b r))
    ∧ r.2.mem ((c : Thread nD τ).loc main_v28) = (plane fun b r => scale (smoothAt (argX m c) (argZ m c) (argG m c) (argS1 m c) b r))
    ∧ r.2.mem ((c : Thread nD τ).loc main_v42) = (cube fun b r => code (smoothAt (argX m c) (argZ m c) (argG m c) (argS2 m c) b r))
    ∧ r.2.mem ((c : Thread nD τ).loc main_v43) = (plane fun b r => scale (smoothAt (argX m c) (argZ m c) (argG m c) (argS2 m c) b r))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => by
    obtain ⟨h0, h1, h2, h3, h4, h5, args⟩ := h c
    have smooth1 := hostSmooth_apply (argX m c) (argZ m c) (argG m c) (argS1 m c)
    have smooth2 := hostSmooth_apply (argX m c) (argZ m c) (argG m c) (argS2 m c)
    exact ⟨h0.trans (eq_cube _ _ fun _ _ _ => rfl), h1.trans (eq_cube _ _ (norm_apply (argX m c) (argZ m c) (argG m c))),
      h2.trans (codes_eq _ _ smooth1), h3.trans (scales_eq _ _ smooth1),
      h4.trans (codes_eq _ _ smooth2), h5.trans (scales_eq _ _ smooth2), args⟩) (Value.run (F := Ideal) m ρ)

end Cert.ReferenceIdeal.Results

end
-- ==== Proof.Mask.lean ====
/-
  The mask: where it selects a code, the scale of the code's row isn't zero.
-/
module

public import proofs.«01_k».proof.Proof.Reference
public import proofs.«01_k».proof.Proof.Gen.On_codes_of_nonzero_rows

@[expose] public section

set_option maxRecDepth 16384

noncomputable section

namespace Cert.On_codes_of_nonzero_rows.Results

open Idealize.ShloMosaic Cert.On_codes_of_nonzero_rows Cert.On_codes_of_nonzero_rows.Gen Cert.Rows

variable (x z : FVec Ideal Cube .f32) (g s₁ s₂ : FVec Ideal Line .f32) (w : FVec Ideal Plane .f32)
variable (b : Fin 2) (r k : Fin 4096)

/-- The elements whose row has a number other than zero in `w`. -/
abbrev selected : IVec Cube 1 := broadcastInDim S2x4096x4096 ![0, 1, 2] Facts.bcast_S2x4096x1_S2x4096x4096_0_1_2
  (broadcastInDim S2x4096x1 ![0, 1] Facts.bcast_S2x4096_S2x4096x1_0_1 (cmpf .une w
    (broadcastInDim S2x4096 ![] Facts.bcast_S_S2x4096 (constant S_ .f32 0x00000000#32))))

/-- The mask at an element: the comparison of its row's number with zero. -/
theorem selected_apply : selected w (ix3 b r k) = FloatOps.cmpf .une (w (ix2 b r)) (Ideal.ofBits .f32 0x00000000#32) := by
  pointwise [selected]

/-- A selected element's row has a number other than zero. -/
theorem ne_zero (h : selected w (ix3 b r k) = 1#1) : w (ix2 b r) ≠ 0 := by
  intro h0
  rw [selected_apply, word_zero, h0] at h
  simp [FloatOps.cmpf, Ideal.cmp] at h

/-- The scales of an array whose rows are known aren't zero where the mask made of them selects. -/
theorem scale_ne_zero (y : FVec Ideal Cube .f32) (f : Fin 2 → Fin 4096 → Row) (hy : ∀ b r k, y (ix3 b r k) = f b r k)
    (h : selected (shapeCast S2x4096 (Cert.ReferenceIdeal.Results.hostColumn y) Facts.shapeCasts_S2x4096x1_S2x4096) (ix3 b r k) = 1#1) :
    scale (f b r) ≠ 0 := by
  have h0 := ne_zero _ b r k h
  rwa [Cert.ReferenceIdeal.Results.scales_eq y f hy] at h0

/-- Where the mask selects a code of the first quantiser, the row's scale isn't zero. -/
theorem first (h : (fn (F := Ideal) x z g s₁ s₂).2.2.1 (ix3 b r k) = 1#1) : scale (smoothAt x z g s₁ b r) ≠ 0 :=
  scale_ne_zero b r k _ _ (Cert.ReferenceIdeal.Results.hostSmooth_apply x z g s₁) h

/-- The same for the second quantiser. -/
theorem second (h : (fn (F := Ideal) x z g s₁ s₂).2.2.2.2.1 (ix3 b r k) = 1#1) : scale (smoothAt x z g s₂ b r) ≠ 0 :=
  scale_ne_zero b r k _ _ (Cert.ReferenceIdeal.Results.hostSmooth_apply x z g s₂) h

end Cert.On_codes_of_nonzero_rows.Results

end
-- ==== Proof.lean ====
/-
  The proof of `Cert.Claim`: the three frames, the named constant, and the value claim, which puts together the kernel's run
  (`Cert.KernelIdeal.Results.run`), the reference's (`Cert.ReferenceIdeal.Results.run`), the two equalities of the
  quantiser (`Cert.Rows.scaleByProduct_eq`, `Cert.Rows.codeByProduct_eq`) and what the mask says of the scales.
-/
module

public import proofs.«01_k».proof.Defs
public import proofs.«01_k».proof.Proof.Gen.Kernel
public import proofs.«01_k».proof.Proof.Gen.Kernel.Frame
public import proofs.«01_k».proof.Proof.Results
public import proofs.«01_k».proof.Proof.Reference
public import proofs.«01_k».proof.Proof.Mask
public import Idealize.ShloMosaic.Adequacy
public import Idealize.ShloMosaic.Init

@[expose] public section

noncomputable section

namespace Cert.Proof

open Idealize.ShloMosaic Idealize.SL.Sem Idealize.ShloMosaic.TcCoe Cert.Rows

/-- The reference runs, leaves its arguments alone and uses no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2.2.2.2,
    Idealize.ShloMosaic.sem_eq_zero_of_no_sems (by decide) r.2⟩) (Cert.ReferenceIdeal.Results.run m ρ)

section

open Cert.KernelIdeal.Results

/-- The kernel and the reference leave the same six results: everything but the codes everywhere, the codes where their
    row's scale isn't zero. -/
theorem values : Cert.algebraic_KernelIdeal_ReferenceIdeal_on_codes_of_nonzero_rows
    (hKernelIdeal := Cert.KernelIdeal.Gen.facts) (hReferenceIdeal := Cert.ReferenceIdeal.Gen.facts)
    (hOn_codes_of_nonzero_rows := Cert.On_codes_of_nonzero_rows.Gen.facts) := by
  intro m g m' g' _ agree
  refine ⟨fun c => cube (sumAt (argX m c) (argZ m c)), fun c => cube (normAt (argX m c) (argZ m c) (argG m c)),
    fun c => cube fun b r => code (smoothAt (argX m c) (argZ m c) (argG m c) (argS1 m c) b r),
    fun c => plane fun b r => scale (smoothAt (argX m c) (argZ m c) (argG m c) (argS1 m c) b r),
    fun c => cube fun b r => code (smoothAt (argX m c) (argZ m c) (argG m c) (argS2 m c) b r),
    fun c => plane fun b r => scale (smoothAt (argX m c) (argZ m c) (argG m c) (argS2 m c) b r), ?_, ?_⟩
  · refine (θ_run Cert.KernelIdeal.defs _ _).mono (fun r h c => ?_) (run m g)
    obtain ⟨h0, h1, h2, h3, h4, h5, args⟩ := h c
    refine ⟨fun i _ => congrFun h0 i, fun i _ => congrFun h1 i,
      fun i hi => (congrFun h2 i).trans (codeByProduct_eq _ _ ?_), fun i _ => (congrFun h3 i).trans (scaleByProduct_eq _),
      fun i hi => (congrFun h4 i).trans (codeByProduct_eq _ _ ?_), fun i _ => (congrFun h5 i).trans (scaleByProduct_eq _), args⟩
    · exact Cert.On_codes_of_nonzero_rows.Results.first _ _ _ _ _ (i 0) (i 1) (i 2) ((congrArg _ (eq_ix3 i).symm).trans hi)
    · exact Cert.On_codes_of_nonzero_rows.Results.second _ _ _ _ _ (i 0) (i 1) (i 2) ((congrArg _ (eq_ix3 i).symm).trans hi)
  · have R := Cert.ReferenceIdeal.Results.run m' g'
    rw [show Cert.ReferenceIdeal.Results.argX m' = argX m from funext fun c => (agree c).1,
      show Cert.ReferenceIdeal.Results.argZ m' = argZ m from funext fun c => (agree c).2.1,
      show Cert.ReferenceIdeal.Results.argG m' = argG m from funext fun c => (agree c).2.2.1,
      show Cert.ReferenceIdeal.Results.argS1 m' = argS1 m from funext fun c => (agree c).2.2.2.1,
      show Cert.ReferenceIdeal.Results.argS2 m' = argS2 m from funext fun c => (agree c).2.2.2.2] at R
    refine (θ_run Cert.ReferenceIdeal.defs _ _).mono (fun r h c => ?_) R
    obtain ⟨h0, h1, h2, h3, h4, h5, args⟩ := h c
    exact ⟨fun i _ => congrFun h0 i, fun i _ => congrFun h1 i, fun i _ => congrFun h2 i, fun i _ => congrFun h3 i,
      fun i _ => congrFun h4 i, fun i _ => congrFun h5 i, args⟩

end

/-- Everything claimed. -/
theorem claim : Cert.Claim :=
  ⟨Cert.Kernel.Gen.facts, Cert.KernelIdeal.Gen.facts, Cert.ReferenceIdeal.Gen.facts, Cert.On_codes_of_nonzero_rows.Gen.facts,
    fun m ρ _ => Cert.Kernel.Gen.frame m ρ, fun m ρ _ => Cert.KernelIdeal.Gen.frame m ρ, reference_frame,
    IdealRules.named_const.statement Cert.KernelIdeal.κ "inv_qmax" .f32 0x3C010204#32 ((1 / 127 : ℝ) : EReal) rfl, values⟩

end Cert.Proof

end
